-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "perplexity" .f32 0x3F800000#32 ((144115188075855872 / 144115188090267391 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v2)) (v2 : (c : Dev Cert.KernelIdeal.nD) → Buf (Elt Ideal) ((c.tc : Thread Cert.KernelIdeal.nD Cert.KernelIdeal.τ).loc Cert.KernelIdeal.main_v6)) (v3 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_v4) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_v46) = v2 c
          ∧ r.2.mem ((c.tc : Thread Cert.ReferenceIdeal.nD Cert.ReferenceIdeal.τ).loc Cert.ReferenceIdeal.main_v16) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x512x64 : Shape := ⟨3, ![8, 512, 64]⟩
abbrev S512x4096 : Shape := ⟨2, ![512, 4096]⟩
abbrev S4096x64 : Shape := ⟨2, ![4096, 64]⟩
abbrev S1x64 : Shape := ⟨2, ![1, 64]⟩
abbrev S1x1 : Shape := ⟨2, ![1, 1]⟩
abbrev S64x512 : Shape := ⟨2, ![64, 512]⟩
abbrev S64 : Shape := ⟨1, ![64]⟩
abbrev S64x1 : Shape := ⟨2, ![64, 1]⟩
abbrev S512 : Shape := ⟨1, ![512]⟩
abbrev S1x512 : Shape := ⟨2, ![1, 512]⟩
abbrev S512x64 : Shape := ⟨2, ![512, 64]⟩
abbrev S1x4096x64 : Shape := ⟨3, ![1, 4096, 64]⟩
abbrev S1 : Shape := ⟨1, ![1]⟩
abbrev S1x1x1 : Shape := ⟨3, ![1, 1, 1]⟩
abbrev S_ : Shape := ⟨0, ![]⟩

abbrev nBuf : Space → Nat
  | .hbm => 11
  | .vmem => 7
  | .smem => 0
  | _ => 0

abbrev bufTy : (tb : Table) → Fin (tcTables nBuf tb) → BufTy
  | .hbm, ⟨0, _⟩ => ⟨S8x512x64, .f32⟩
  | .hbm, ⟨1, _⟩ => ⟨S512x4096, .f32⟩
  | .hbm, ⟨2, _⟩ => ⟨S4096x64, .f32⟩
  | .hbm, ⟨3, _⟩ => ⟨S4096x64, .f32⟩
  | .hbm, ⟨4, _⟩ => ⟨S1x64, .i32⟩
  | .hbm, ⟨5, _⟩ => ⟨S1x1, .f32⟩
  | .hbm, ⟨6, _⟩ => ⟨S8x512x64, .f32⟩
  | .hbm, ⟨7, _⟩ => ⟨S_, .f32⟩
  | .hbm, ⟨8, _⟩ => ⟨S64, .i32⟩
  | .hbm, ⟨9, _⟩ => ⟨S1x1, .f32⟩
  | .hbm, ⟨10, _⟩ => ⟨S_, .f32⟩
  | .local _ .vmem, ⟨0, _⟩ => ⟨S4096x64, .f32⟩
  | .local _ .vmem, ⟨1, _⟩ => ⟨S512x4096, .f32⟩
  | .local _ .vmem, ⟨2, _⟩ => ⟨S4096x64, .f32⟩
  | .local _ .vmem, ⟨3, _⟩ => ⟨S1x64, .i32⟩
  | .local _ .vmem, ⟨4, _⟩ => ⟨S1x1, .f32⟩
  | .local _ .vmem, ⟨5, _⟩ => ⟨S1x1, .f32⟩
  | .local _ .vmem, ⟨6, _⟩ => ⟨S1x1, .f32⟩
  | _, _ => ⟨S8x512x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc1_stg0_0 : Ref sig .tc := ⟨.vmem, 5, rfl⟩
abbrev cc1_stg1_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc1_sem0_0 : DmaSem sig := 5
abbrev cc1_sem1_0 : DmaSem sig := 6

abbrev nD : Nat := 1
abbrev τ : Topo := Topo.v7x

variable {F : FTy → Type} [FloatOps F]

abbrev grid0 : Pipeline.Grid := .none

abbrev stage0_0 : Fin 1 → Memref sig .tc .vmem S4096x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x64 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev grid1 : Pipeline.Grid := .none

abbrev stage1_0 : Fin 1 → Memref sig .tc .vmem S1x1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
-- ==== KernelIdeal.lean ====
variable {F : FTy → Type} [FloatOps F] [Named F]
def κ : String → Option EReal := fun
  | "perplexity" => some ((144115188075855872 / 144115188090267391 : ℝ) : EReal)
  | _ => none
-- ==== ReferenceIdeal.lean ====
abbrev S8x512x64 : Shape := ⟨3, ![8, 512, 64]⟩
abbrev S512x4096 : Shape := ⟨2, ![512, 4096]⟩
abbrev S64x8x512 : Shape := ⟨3, ![64, 8, 512]⟩
abbrev S64x4096 : Shape := ⟨2, ![64, 4096]⟩
abbrev S_ : Shape := ⟨0, ![]⟩
abbrev S64 : Shape := ⟨1, ![64]⟩
abbrev S64x1 : Shape := ⟨2, ![64, 1]⟩
abbrev S512 : Shape := ⟨1, ![512]⟩
abbrev S1x512 : Shape := ⟨2, ![1, 512]⟩
abbrev S4096x512 : Shape := ⟨2, ![4096, 512]⟩
abbrev S64x512 : Shape := ⟨2, ![64, 512]⟩

abbrev nBuf : Space → Nat
  | .hbm => 72
  | .vmem => 0
  | .smem => 0
  | _ => 0

abbrev bufTy : (tb : Table) → Fin (tcTables nBuf tb) → BufTy
  | .hbm, ⟨0, _⟩ => ⟨S8x512x64, .f32⟩
  | .hbm, ⟨1, _⟩ => ⟨S512x4096, .f32⟩
  | .hbm, ⟨2, _⟩ => ⟨S64x8x512, .f32⟩
  | .hbm, ⟨3, _⟩ => ⟨S64x4096, .f32⟩
  | .hbm, ⟨4, _⟩ => ⟨S64x4096, .f32⟩
  | .hbm, ⟨5, _⟩ => ⟨S_, .f32⟩
  | .hbm, ⟨6, _⟩ => ⟨S64, .f32⟩
  | .hbm, ⟨7, _⟩ => ⟨S64x1, .f32⟩
  | .hbm, ⟨8, _⟩ => ⟨S512x4096, .f32⟩
  | .hbm, ⟨9, _⟩ => ⟨S_, .f32⟩
  | .hbm, ⟨10, _⟩ => ⟨S512, .f32⟩
  | .hbm, ⟨11, _⟩ => ⟨S1x512, .f32⟩
  | .hbm, ⟨12, _⟩ => ⟨S4096x512, .f32⟩
  | .hbm, ⟨13, _⟩ => ⟨S64x512, .f32⟩
  | .hbm, ⟨14, _⟩ => ⟨S_, .f32⟩
  | .hbm, ⟨15, _⟩ => ⟨S64x512, .f32⟩
  | .hbm, ⟨16, _⟩ => ⟨S64x512, .f32⟩
  | .hbm, ⟨17, _⟩ => ⟨S64x512, .f32⟩
  | .hbm, ⟨18, _⟩ => ⟨S64x512, .f32⟩
  | .hbm, ⟨19, _⟩ => ⟨S64x512, .f32⟩
  | .hbm, ⟨20, _⟩ => ⟨S64x512, .f32⟩
  | .hbm, ⟨21, _⟩ => ⟨S64x512, .i32⟩
  | .hbm, ⟨22, _⟩ => ⟨S_, .f32⟩
  | .hbm, ⟨23, _⟩ => ⟨S_, .i32⟩
  | .hbm, ⟨24, _⟩ => ⟨S64, .f32⟩
  | .hbm, ⟨25, _⟩ => ⟨S64, .i32⟩
  | .hbm, ⟨26, _⟩ => ⟨S64x1, .i32⟩
  | .hbm, ⟨27, _⟩ => ⟨S1x512, .i32⟩
  | .hbm, ⟨28, _⟩ => ⟨S64x512, .i32⟩
  | .hbm, ⟨29, _⟩ => ⟨S64x512, .i32⟩
  | .hbm, ⟨30, _⟩ => ⟨S64x512, .i1⟩
  | .hbm, ⟨31, _⟩ => ⟨S64x512, .f32⟩
  | .hbm, ⟨32, _⟩ => ⟨S64x4096, .f32⟩
  | .hbm, ⟨33, _⟩ => ⟨S64x4096, .f32⟩
  | .hbm, ⟨34, _⟩ => ⟨S64x4096, .f32⟩
  | .hbm, ⟨35, _⟩ => ⟨S_, .f32⟩
  | .hbm, ⟨36, _⟩ => ⟨S64, .f32⟩
  | .hbm, ⟨37, _⟩ => ⟨S_, .f32⟩
  | .hbm, ⟨38, _⟩ => ⟨S64, .f32⟩
  | .hbm, ⟨39, _⟩ => ⟨S64, .f32⟩
  | .hbm, ⟨40, _⟩ => ⟨S64x4096, .f32⟩
  | .hbm, ⟨41, _⟩ => ⟨S64x4096, .f32⟩
  | .hbm, ⟨42, _⟩ => ⟨S_, .f32⟩
  | .hbm, ⟨43, _⟩ => ⟨S64, .f32⟩
  | .hbm, ⟨44, _⟩ => ⟨S_, .f32⟩
  | .hbm, ⟨45, _⟩ => ⟨S64, .f32⟩
  | .hbm, ⟨46, _⟩ => ⟨S64, .f32⟩
  | .hbm, ⟨47, _⟩ => ⟨S_, .f32⟩
  | .hbm, ⟨48, _⟩ => ⟨S64, .f32⟩
  | .hbm, ⟨49, _⟩ => ⟨S64, .f32⟩
  | .hbm, ⟨50, _⟩ => ⟨S64, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S64x4096, .f32⟩
  | .hbm, ⟨56, _⟩ => ⟨S64x4096, .f32⟩
  | .hbm, ⟨57, _⟩ => ⟨S64x8x512, .f32⟩
  | .hbm, ⟨58, _⟩ => ⟨S8x512x64, .f32⟩
  | .hbm, ⟨59, _⟩ => ⟨S_, .f32⟩
  | .hbm, ⟨60, _⟩ => ⟨S64x512, .f32⟩
  | .hbm, ⟨61, _⟩ => ⟨S64x512, .f32⟩
  | .hbm, ⟨62, _⟩ => ⟨S64x512, .f32⟩
  | .hbm, ⟨63, _⟩ => ⟨S64x512, .f32⟩
  | .hbm, ⟨64, _⟩ => ⟨S_, .f32⟩
  | .hbm, ⟨65, _⟩ => ⟨S64, .f32⟩
  | .hbm, ⟨66, _⟩ => ⟨S64, .f32⟩
  | .hbm, ⟨67, _⟩ => ⟨S64, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | _, _ => ⟨S8x512x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_cst : Ref sig .tc := ⟨.hbm, 22, rfl⟩
abbrev main_call0_c : Ref sig .tc := ⟨.hbm, 23, rfl⟩
abbrev main_call0_v1_0 : Ref sig .tc := ⟨.hbm, 24, rfl⟩
abbrev main_v16 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_cst_5 : Ref sig .tc := ⟨.hbm, 44, rfl⟩
abbrev main_v27 : Ref sig .tc := ⟨.hbm, 45, rfl⟩
abbrev main_v28 : Ref sig .tc := ⟨.hbm, 46, rfl⟩
abbrev main_cst_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_7 : Ref sig .tc := ⟨.hbm, 51, rfl⟩
abbrev main_v32 : Ref sig .tc := ⟨.hbm, 52, rfl⟩
abbrev main_cst_8 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_9 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_10 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_11 : Ref sig .tc := ⟨.hbm, 68, rfl⟩
abbrev main_v45 : Ref sig .tc := ⟨.hbm, 69, rfl⟩
abbrev main_cst_12 : Ref sig .tc := ⟨.hbm, 70, rfl⟩
abbrev main_v46 : Ref sig .tc := ⟨.hbm, 71, rfl⟩

abbrev nD : Nat := 1
abbrev τ : Topo := Topo.v7x

variable {F : FTy → Type} [FloatOps F]
-- ==== Proof.RefTerms.lean ====
/- What the plain program computes, as terms of its two argument arrays: one definition per named line of the
   reference (the rows, the distances, the nearest entries, the one-hot rows, the codebook rows taken, and the four
   results), at the ideal instance, where a float is an extended real. -/
module

public import proofs.«01_k».proof.Proof.Gen.ReferenceIdeal
public import Idealize.ShloMosaic.PureOps.Ideal

@[expose] public section

noncomputable section

namespace Cert.Proof.Ref

open Idealize.ShloMosaic Cert.ReferenceIdeal Cert.ReferenceIdeal.Gen

variable (a : FVec Ideal S8x512x64 .f32) (w : FVec Ideal S512x4096 .f32)

/-- The 64 feature vectors, one a row: the input transposed and flattened. -/
def rows : FVec Ideal S64x4096 .f32 :=
  shapeCast S64x4096 (transpose S64x8x512 [2, 0, 1] a transposes_S8x512x64_S64x8x512_2_0_1) shapeCasts_S64x8x512_S64x4096

/-- The squared distance of each feature vector to each codebook row: `x² - 2 x·w + w²`. -/
def dists : FVec Ideal S64x512 .f32 :=
  addf
    (subf
      (broadcastInDim S64x512 ![0, 1] bcast_S64x1_S64x512_0_1 (broadcastInDim S64x1 ![0] bcast_S64_S64x1_0
        (Host.reduceAdd (mulf (rows a) (rows a)) (constant S_ .f32 0x00000000#32) reducesTo_S64x4096_S64_d1 h_S_)))
      (mulf (broadcastInDim S64x512 ![] bcast_S_S64x512 (constant S_ .f32 0x40000000#32))
        (Host.dotGeneral dot_S64x4096_S4096x512_S64x512_1_0_0_1_n_n none (rows a)
          (transpose S4096x512 [1, 0] w transposes_S512x4096_S4096x512_1_0))))
    (broadcastInDim S64x512 ![0, 1] bcast_S1x512_S64x512_0_1 (broadcastInDim S1x512 ![1] bcast_S512_S1x512_1
      (Host.reduceAdd (mulf w w) (constant S_ .f32 0x00000000#32) reducesTo_S512x4096_S512_d1 h_S_)))

/-- The nearest codebook entry of each feature vector, by a reduction over (distance, index) pairs. -/
def nearest : IVec S64 32 := fun j =>
  (Host.argReduce reducer_argmin_f32_i32 (dists a w) (iotaInDim S64x512 32 1) (constant S_ .f32 0x7F800000#32)
    (constantI S_ 32 0#32) reducesTo_S64x512_S64_d1 h_S_ j).2

/-- The one-hot row of each nearest entry. -/
def onehot : FVec Ideal S64x512 .f32 :=
  uitofp .f32 (cmpi .eq
    (broadcastInDim S64x512 ![0, 1] bcast_S64x1_S64x512_0_1 (broadcastInDim S64x1 ![0] bcast_S64_S64x1_0 (nearest a w)))
    (broadcastInDim S64x512 ![0, 1] bcast_S1x512_S64x512_0_1 (iotaInDim S1x512 32 1)))

/-- The codebook row taken for each feature vector, less the vector. -/
def diffs : FVec Ideal S64x4096 .f32 :=
  subf (Host.dotGeneral dot_S64x512_S512x4096_S64x4096_1_0_0_1_n_n none (onehot a w) w) (rows a)

/-- Each feature vector's mean squared difference. -/
def means : FVec Ideal S64 .f32 :=
  Host.divf (Host.reduceAdd (mulf (diffs a w) (diffs a w)) (constant S_ .f32 0x00000000#32) reducesTo_S64x4096_S64_d1 h_S_)
    (broadcastInDim S64 ![] bcast_S_S64 (constant S_ .f32 0x45800000#32))

/-- Result 1: the mean over the feature vectors of the mean plus a quarter of the mean. -/
def loss : FVec Ideal S_ .f32 :=
  Host.divf
    (Host.reduceAdd
      (addf (means a w) (mulf (broadcastInDim S64 ![] bcast_S_S64 (constant S_ .f32 0x3E800000#32)) (means a w)))
      (constant S_ .f32 0x00000000#32) reducesTo_S64_S_d0 h_S_)
    (constant S_ .f32 0x42800000#32)

/-- Result 2: the vectors plus the differences, in the input's layout. -/
def out : FVec Ideal S8x512x64 .f32 :=
  transpose S8x512x64 [1, 2, 0] (shapeCast S64x8x512 (addf (rows a) (diffs a w)) shapeCasts_S64x4096_S64x8x512)
    transposes_S64x8x512_S8x512x64_1_2_0

/-- Result 3: the mean over the feature vectors of the exponential of the one-hot row's entropy. -/
def perplexity : FVec Ideal S_ .f32 :=
  Host.divf
    (Host.reduceAdd
      (Host.exp (Host.negf
        (Host.reduceAdd
          (mulf (onehot a w) (Host.log
            (addf (onehot a w) (broadcastInDim S64x512 ![] bcast_S_S64x512 (constant S_ .f32 0x2EDBE6FF#32)))))
          (constant S_ .f32 0x00000000#32) reducesTo_S64x512_S64_d1 h_S_)))
      (constant S_ .f32 0x00000000#32) reducesTo_S64_S_d0 h_S_)
    (constant S_ .f32 0x42800000#32)

end Cert.Proof.Ref

end
-- ==== Proof.RefRun.lean ====
/- The plain program's run: it ends with its four results at the terms of RefTerms.lean and its arguments as they
   were. -/
module

public import proofs.«01_k».proof.Proof.RefTerms
public import Idealize.ShloMosaic.Lib.Claim
public import Idealize.ShloMosaic.Lib.Tactic.CleanTypes

@[expose] public section

set_option maxRecDepth 16384

noncomputable section

namespace Cert.Proof.Ref

open Idealize.ShloMosaic Idealize.ShloMosaic.TcCoe Idealize.SL.Sem Cert.ReferenceIdeal Cert.ReferenceIdeal.Gen

/-- Every execution of the plain program ends with the four results of RefTerms.lean, its arguments unchanged. -/
theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v33) = loss (m ((c.tc : Thread nD τ).loc main_arg0)) (m ((c.tc : Thread nD τ).loc main_arg1))
      ∧ r.2.mem ((c.tc : Thread nD τ).loc main_v37) = out (m ((c.tc : Thread nD τ).loc main_arg0)) (m ((c.tc : Thread nD τ).loc main_arg1))
      ∧ r.2.mem ((c.tc : Thread nD τ).loc main_v46) = perplexity (m ((c.tc : Thread nD τ).loc main_arg0)) (m ((c.tc : Thread nD τ).loc main_arg1))
      ∧ r.2.mem ((c.tc : Thread nD τ).loc main_v16) = nearest (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  hlo_run
  all_goals
    simp only [StableHlo.TRef.ofBuf_toBuf]
    simp only [StableHlo.TRef.ofBuf, StableHlo.TRef.toBuf, StableHlo.TRef.of, cast_eq]
  · unfold loss means diffs onehot nearest dists rows
    rfl
  · unfold out diffs onehot nearest dists rows
    rfl
  · unfold perplexity onehot nearest dists rows
    rfl
  · unfold nearest dists rows
    rfl

end Cert.Proof.Ref

end
-- ==== Proof.Nearest.lean ====
/- The first index at which a row of 512 extended reals is least, and the two ways a program finds it: the smallest of
   the indices at which the row meets its minimum, and a left fold over (value, index) pairs. -/
module

public import proofs.«01_k».proof.Proof.Gen.ReferenceIdeal
public import Idealize.ShloMosaic.PureOps.Ideal
public import Idealize.ShloMosaic.PureOps.Ideal.Laws
public import Idealize.ShloMosaic.Lib.Pointwise
public import Idealize.ShloMosaic.Lib.SortNet.Extract

@[expose] public section

noncomputable section

namespace Cert.Proof

open Idealize.ShloMosaic

/-- `k` is the first index at which `f` is least. -/
def IsFirst (f : Fin 512 → EReal) (k : Fin 512) : Prop := ∀ j, f k < f j ∨ (f k = f j ∧ k ≤ j)

/-- There is a first least index. -/
theorem exists_isFirst (f : Fin 512 → EReal) : ∃ k, IsFirst f k := by
  obtain ⟨k, hk⟩ := Finite.exists_min fun k => toLex (f k, k)
  exact ⟨k, fun j => Prod.Lex.toLex_le_toLex.mp (hk j)⟩

/-- The first least index. -/
def first (f : Fin 512 → EReal) : Fin 512 := (exists_isFirst f).choose

/-- It is one. -/
theorem first_spec (f : Fin 512 → EReal) : IsFirst f (first f) := (exists_isFirst f).choose_spec

/-- At the first least index the value is at most every value. -/
theorem IsFirst.le {f : Fin 512 → EReal} {k : Fin 512} (h : IsFirst f k) (j : Fin 512) : f k ≤ f j :=
  (h j).elim le_of_lt fun e => e.1.le

/-- An index with an equal value isn't before it. -/
theorem IsFirst.le_of_eq {f : Fin 512 → EReal} {k j : Fin 512} (h : IsFirst f k) (e : f j = f k) : k ≤ j :=
  (h j).elim (fun l => absurd e l.ne') fun e => e.2

/-- The minimum of the row, taken from the top, is the value at the first least index. -/
theorem IsFirst.fold_min {f : Fin 512 → EReal} {k : Fin 512} (h : IsFirst f k) :
    Finset.univ.fold min ⊤ f = f k :=
  le_antisymm ((Finset.fold_min_le _).mpr (.inr ⟨k, Finset.mem_univ k, le_rfl⟩))
    ((Finset.le_fold_min _).mpr ⟨le_top, fun j _ => h.le j⟩)

/-- An index as a 32-bit word reads back as itself. -/
theorem toInt_index (k : Fin 512) : (BitVec.ofNat 32 k.val).toInt = k.val := by
  rw [BitVec.toInt_ofNat']
  exact Int.bmod_eq_of_le (by omega) (by omega)

/-- Two indices with the same word are the same. -/
theorem index_inj {j k : Fin 512} (h : BitVec.ofNat 32 j.val = BitVec.ofNat 32 k.val) : j = k := by
  have := congrArg BitVec.toInt h
  rw [toInt_index, toInt_index] at this
  exact Fin.ext (by exact_mod_cast this)

/-- The smallest of the indices at which the row meets its minimum, 512 standing for the others, is the first least index. -/
theorem fold_minsi_eq {f : Fin 512 → EReal} {k : Fin 512} (h : IsFirst f k) :
    Finset.univ.fold IntOp.minsi 2147483647#32
      (fun x : Fin 512 => if f x = Finset.univ.fold min ⊤ f then BitVec.ofNat 32 x.val else 512#32) = BitVec.ofNat 32 k.val := by
  apply BitVec.eq_of_toInt_eq
  rw [← Finset.fold_hom (op' := min) (m := BitVec.toInt) SortNet.toInt_minsi, toInt_index, h.fold_min]
  refine le_antisymm ((Finset.fold_min_le _).mpr (.inr ⟨k, Finset.mem_univ k, ?_⟩))
    ((Finset.le_fold_min _).mpr ⟨?_, fun j _ => ?_⟩)
  · rw [if_pos rfl, toInt_index]
  · rw [show (2147483647#32 : BitVec 32).toInt = 2147483647 from by decide]; omega
  · by_cases e : f j = f k
    · rw [if_pos e, toInt_index]
      exact_mod_cast h.le_of_eq e
    · rw [if_neg e, show (512#32 : BitVec 32).toInt = 512 from by decide]; omega

/-- One pair is before another: a smaller value, or an equal value and a smaller index. -/
def Before (p q : EReal × BitVec 32) : Prop := p.1 < q.1 ∨ (p.1 = q.1 ∧ p.2.toInt ≤ q.2.toInt)

/-- Each pair is before itself. -/
theorem Before.refl (p : EReal × BitVec 32) : Before p p := .inr ⟨rfl, le_rfl⟩

/-- The order is transitive. -/
theorem Before.trans {p q r : EReal × BitVec 32} (h : Before p q) (h' : Before q r) : Before p r := by
  rcases h with h | ⟨h, i⟩ <;> rcases h' with h' | ⟨h', i'⟩
  · exact .inl (h.trans h')
  · exact .inl (h' ▸ h)
  · exact .inl (h ▸ h')
  · exact .inr ⟨h.trans h', i.trans i'⟩

/-- The reference's step keeps one of the two pairs, and that one is before both. -/
theorem step_spec (p q : EReal × BitVec 32) :
    (ReferenceIdeal.reducer_argmin_f32_i32 (F := Ideal) p q = p ∨ ReferenceIdeal.reducer_argmin_f32_i32 (F := Ideal) p q = q)
    ∧ Before (ReferenceIdeal.reducer_argmin_f32_i32 (F := Ideal) p q) p
    ∧ Before (ReferenceIdeal.reducer_argmin_f32_i32 (F := Ideal) p q) q := by
  obtain ⟨a, i⟩ := p
  obtain ⟨b, j⟩ := q
  rcases lt_trichotomy a b with h | rfl | h
  · have e : ReferenceIdeal.reducer_argmin_f32_i32 (F := Ideal) (a, i) (b, j) = (a, i) := by
      simp [ReferenceIdeal.reducer_argmin_f32_i32, Ideal.cmpf_def, Ideal.cmp, h, h.ne, IntOp.ori, IntOp.andi, Scalar.select]
    rw [e]
    exact ⟨.inl rfl, .refl _, .inl h⟩
  · by_cases l : i.toInt < j.toInt
    · have e : ReferenceIdeal.reducer_argmin_f32_i32 (F := Ideal) (a, i) (a, j) = (a, i) := by
        simp [ReferenceIdeal.reducer_argmin_f32_i32, Ideal.cmpf_def, Ideal.cmp, IntOp.ori, IntOp.andi, IntOp.cmpi, Scalar.select,
          show i.slt j = true from decide_eq_true l]
      rw [e]
      exact ⟨.inl rfl, .refl _, .inr ⟨rfl, l.le⟩⟩
    · have e : ReferenceIdeal.reducer_argmin_f32_i32 (F := Ideal) (a, i) (a, j) = (a, j) := by
        simp [ReferenceIdeal.reducer_argmin_f32_i32, Ideal.cmpf_def, Ideal.cmp, IntOp.ori, IntOp.andi, IntOp.cmpi, Scalar.select,
          show i.slt j = false from decide_eq_false l]
      rw [e]
      exact ⟨.inr rfl, .inr ⟨rfl, not_lt.mp l⟩, .refl _⟩
  · have e : ReferenceIdeal.reducer_argmin_f32_i32 (F := Ideal) (a, i) (b, j) = (b, j) := by
      simp [ReferenceIdeal.reducer_argmin_f32_i32, Ideal.cmpf_def, Ideal.cmp, h.not_gt, h.ne', IntOp.ori, IntOp.andi, Scalar.select]
    rw [e]
    exact ⟨.inr rfl, .inl h, .refl _⟩

/-- A left fold of the step ends at the initial pair or at one of the list, and that pair is before all of them. -/
theorem foldl_spec (l : List (EReal × BitVec 32)) (z : EReal × BitVec 32) :
    (l.foldl (ReferenceIdeal.reducer_argmin_f32_i32 (F := Ideal)) z = z ∨ l.foldl (ReferenceIdeal.reducer_argmin_f32_i32 (F := Ideal)) z ∈ l)
    ∧ Before (l.foldl (ReferenceIdeal.reducer_argmin_f32_i32 (F := Ideal)) z) z
    ∧ ∀ p ∈ l, Before (l.foldl (ReferenceIdeal.reducer_argmin_f32_i32 (F := Ideal)) z) p := by
  induction l generalizing z with
  | nil => exact ⟨.inl rfl, .refl _, fun _ h => absurd h List.not_mem_nil⟩
  | cons q l ih =>
    obtain ⟨m, b, a⟩ := ih (ReferenceIdeal.reducer_argmin_f32_i32 (F := Ideal) z q)
    obtain ⟨sm, sz, sq⟩ := step_spec z q
    rw [List.foldl_cons]
    refine ⟨?_, b.trans sz, fun p hp => ?_⟩
    · rcases m with m | m
      · rcases sm with sm | sm
        · exact .inl (m.trans sm)
        · exact .inr (by rw [m, sm]; exact List.mem_cons_self)
      · exact .inr (List.mem_cons_of_mem _ m)
    · rcases List.mem_cons.mp hp with rfl | hp
      · exact b.trans sq
      · exact a p hp

/-- Over a list of exactly the row's (value, index) pairs, from (top, 0), the fold ends at the first least index. -/
theorem foldl_index {f : Fin 512 → EReal} {k : Fin 512} (h : IsFirst f k) (l : List (EReal × BitVec 32))
    (hl : ∀ p, p ∈ l ↔ ∃ j : Fin 512, p = (f j, BitVec.ofNat 32 j.val)) :
    (l.foldl (ReferenceIdeal.reducer_argmin_f32_i32 (F := Ideal)) ((⊤ : EReal), 0#32)).2 = BitVec.ofNat 32 k.val := by
  obtain ⟨m, -, a⟩ := foldl_spec l ((⊤ : EReal), 0#32)
  have hb := a _ ((hl _).mpr ⟨k, rfl⟩)
  rcases m with m | m
  · rw [m] at hb ⊢
    rcases hb with hb | ⟨hb, -⟩
    · exact absurd hb not_top_lt
    · have h0 : f 0 = f k := le_antisymm (le_top.trans_eq hb) (h.le 0)
      have : k = 0 := le_antisymm (h.le_of_eq h0) (Fin.zero_le k)
      rw [this]; rfl
  · obtain ⟨j, hj⟩ := (hl _).mp m
    rw [hj] at hb ⊢
    rcases hb with hb | ⟨hb, i⟩
    · exact absurd hb (h.le j).not_gt
    · have i' : (BitVec.ofNat 32 j.val).toInt ≤ (BitVec.ofNat 32 k.val).toInt := i
      rw [toInt_index, toInt_index] at i'
      have : k = j := le_antisymm (h.le_of_eq hb) (by exact_mod_cast i')
      rw [this]

end Cert.Proof

end
-- ==== Proof.Spec.lean ====
/- What both programs compute, over the 64 feature vectors `x d` and the 512 codebook rows `w k`, each of 4096 extended
   reals: the squared distances, the nearest codebook row, and the difference of that row and the vector. Also the two
   ways the programs write a one-hot row as floats, and the sum that picks a codebook row by it. -/
module

public import proofs.«01_k».proof.Proof.Nearest

@[expose] public section

noncomputable section

namespace Cert.Proof

open Idealize.ShloMosaic

/-- The squared distance of vector `d` to codebook row `k`, as `x² - 2 x·w + w²`. -/
def dist (x : Fin 64 → Fin 4096 → EReal) (w : Fin 512 → Fin 4096 → EReal) (d : Fin 64) (k : Fin 512) : EReal :=
  ∑ l, x d l * x d l - Ideal.ofBits .f32 0x40000000#32 * ∑ l, x d l * w k l + ∑ l, w k l * w k l

/-- The nearest codebook row of vector `d`, the first of them when several are as near. -/
def idx (x : Fin 64 → Fin 4096 → EReal) (w : Fin 512 → Fin 4096 → EReal) (d : Fin 64) : Fin 512 := first (dist x w d)

/-- The nearest codebook row of vector `d` less the vector, at coordinate `l`. -/
def err (x : Fin 64 → Fin 4096 → EReal) (w : Fin 512 → Fin 4096 → EReal) (d : Fin 64) (l : Fin 4096) : EReal :=
  w (idx x w d) l - x d l

/-- The comparison of two index words, as an unsigned float: 1 where the indices are equal, else 0. -/
theorem uitofp_cmpi (j k : Fin 512) :
    FloatOps.uitofp (F := Ideal) .f32 (IntOp.cmpi .eq (BitVec.ofNat 32 j.val) (BitVec.ofNat 32 k.val))
      = if j = k then (1 : EReal) else 0 := by
  by_cases h : j = k
  · subst h
    rw [if_pos rfl, show IntOp.cmpi .eq (BitVec.ofNat 32 j.val) (BitVec.ofNat 32 j.val) = 1#1 from by simp [IntOp.cmpi]]
    show (((1#1 : BitVec 1).toNat : ℝ) : EReal) = 1
    norm_num
  · rw [if_neg h, show IntOp.cmpi .eq (BitVec.ofNat 32 j.val) (BitVec.ofNat 32 k.val) = 0#1 from by
      have : BitVec.ofNat 32 j.val ≠ BitVec.ofNat 32 k.val := fun e => h (index_inj e)
      show BitVec.ofBool (BitVec.ofNat 32 j.val == BitVec.ofNat 32 k.val) = 0#1
      rw [beq_eq_false_iff_ne.mpr this]; rfl]
    show (((0#1 : BitVec 1).toNat : ℝ) : EReal) = 0
    norm_num

/-- The same comparison widened to 32 bits and read as a signed float. -/
theorem sitofp_cmpi (j k : Fin 512) :
    FloatOps.sitofp (F := Ideal) .f32 (BitVec.setWidth 32 (IntOp.cmpi .eq (BitVec.ofNat 32 j.val) (BitVec.ofNat 32 k.val)))
      = if j = k then (1 : EReal) else 0 := by
  by_cases h : j = k
  · subst h
    rw [if_pos rfl, show IntOp.cmpi .eq (BitVec.ofNat 32 j.val) (BitVec.ofNat 32 j.val) = 1#1 from by simp [IntOp.cmpi]]
    show (((BitVec.setWidth 32 1#1).toInt : ℝ) : EReal) = 1
    rw [show (BitVec.setWidth 32 1#1).toInt = 1 from by decide]; norm_num
  · rw [if_neg h, show IntOp.cmpi .eq (BitVec.ofNat 32 j.val) (BitVec.ofNat 32 k.val) = 0#1 from by
      have : BitVec.ofNat 32 j.val ≠ BitVec.ofNat 32 k.val := fun e => h (index_inj e)
      show BitVec.ofBool (BitVec.ofNat 32 j.val == BitVec.ofNat 32 k.val) = 0#1
      rw [beq_eq_false_iff_ne.mpr this]; rfl]
    show (((BitVec.setWidth 32 0#1).toInt : ℝ) : EReal) = 0
    rw [show (BitVec.setWidth 32 0#1).toInt = 0 from by decide]; norm_num

/-- The sum of the rows' entries weighted by a one-hot row is the chosen row's entry. -/
theorem sum_onehot (j : Fin 512) (v : Fin 512 → EReal) : ∑ k, (if j = k then (1 : EReal) else 0) * v k = v j := by
  rw [Finset.sum_eq_single j (fun k _ h => by rw [if_neg (Ne.symm h), zero_mul]) (fun h => absurd (Finset.mem_univ j) h),
    if_pos rfl, one_mul]

end Cert.Proof

end
-- ==== Proof.Consts.lean ====
/- The literals of the two programs, as the real numbers their bits stand for. -/
module

public import Idealize.ShloMosaic.PureOps.Ideal

@[expose] public section

noncomputable section

namespace Cert.Proof

open Idealize.ShloMosaic

/-- The reduction's initial value: plus infinity. -/
theorem bits_top : Ideal.ofBits .f32 0x7F800000#32 = ⊤ := by simp [Ideal.ofBits, Ideal.ieee]

/-- 4096, the vectors' length. -/
theorem bits_len : Ideal.ofBits .f32 0x45800000#32 = ((4096 : ℝ) : EReal) := by
  simp [Ideal.ofBits, Ideal.ieee, -EReal.coe_mul]; norm_num

/-- 64, the number of vectors. -/
theorem bits_dim : Ideal.ofBits .f32 0x42800000#32 = ((64 : ℝ) : EReal) := by
  simp [Ideal.ofBits, Ideal.ieee, -EReal.coe_mul]; norm_num

/-- A quarter, the commitment loss's weight. -/
theorem bits_quarter : Ideal.ofBits .f32 0x3E800000#32 = ((1 / 4 : ℝ) : EReal) := by
  simp [Ideal.ofBits, Ideal.ieee, -EReal.coe_mul]; norm_num

/-- 1.25, the kernel's weight of the squared differences. -/
theorem bits_weight : Ideal.ofBits .f32 0x3FA00000#32 = ((5 / 4 : ℝ) : EReal) := by
  simp [Ideal.ofBits, Ideal.ieee, -EReal.coe_mul]; norm_num

/-- 262144, the number of the input's elements. -/
theorem bits_numel : Ideal.ofBits .f32 0x48800000#32 = ((262144 : ℝ) : EReal) := by
  simp [Ideal.ofBits, Ideal.ieee, -EReal.coe_mul]; norm_num

/-- The f32 nearest 1e-10. -/
theorem bits_eps : Ideal.ofBits .f32 0x2EDBE6FF#32 = ((14411519 / 144115188075855872 : ℝ) : EReal) := by
  simp [Ideal.ofBits, Ideal.ieee, -EReal.coe_mul]; norm_num

end Cert.Proof

end
-- ==== Proof.RefReads.lean ====
/- The reference's terms read at an index, in the words of Spec.lean. -/
module

public import proofs.«01_k».proof.Proof.Spec
public import proofs.«01_k».proof.Proof.Consts
public import proofs.«01_k».proof.Proof.RefTerms
public import Idealize.ShloMosaic.Lib.Pointwise

@[expose] public section

set_option maxRecDepth 16384

noncomputable section

namespace Cert.Proof.Ref

open Idealize.ShloMosaic Cert.ReferenceIdeal Cert.ReferenceIdeal.Gen

/-- The feature vectors: vector `d` is the input's channel `d`, its other two axes flattened. -/
def vec (a : FVec Ideal S8x512x64 .f32) (d : Fin 64) (l : Fin 4096) : EReal :=
  a (ix3 ⟨l.val / 512, by omega⟩ ⟨l.val % 512, by omega⟩ d)

/-- The codebook's rows. -/
def book (w : FVec Ideal S512x4096 .f32) (k : Fin 512) (l : Fin 4096) : EReal := w (ix2 k l)

variable (a : FVec Ideal S8x512x64 .f32) (w : FVec Ideal S512x4096 .f32)

/-- The reference's rows are the feature vectors. -/
theorem rows_apply (d : Fin 64) (l : Fin 4096) : rows a (ix2 d l) = vec a d l := by
  pointwise [rows]
  rfl

/-- Its distances are the squared distances. -/
theorem dists_apply (d : Fin 64) (k : Fin 512) : dists a w (ix2 d k) = dist (vec a) (book w) d k := by
  pointwise [dists]
  simp only [rows_apply]
  rfl

/-- The pairs that the reference's reduction folds over at `d` are vector `d`'s distances, each with its index. -/
theorem mem_fiber (d : Fin 64) (p : EReal × BitVec 32) :
    p ∈ Host.argReduceFiber (dists a w) (iotaInDim S64x512 32 1) reducesTo_S64x512_S64_d1 (ix1 d)
      ↔ ∃ k : Fin 512, p = (dist (vec a) (book w) d k, BitVec.ofNat 32 k.val) := by
  have at_k (k : Fin 512) : (dists a w (ix2 d k), iotaInDim S64x512 32 1 (ix2 d k))
      = (dist (vec a) (book w) d k, BitVec.ofNat 32 k.val) := Prod.ext (dists_apply a w d k) rfl
  have fib (i : S64x512.Idx) : reducesTo_S64x512_S64_d1.drop i = ix1 d ↔ ∃ k : Fin 512, ix2 d k = i :=
    Shape.ReducesTo.fiber_r2_a1 reducesTo_S64x512_S64_d1 (ix1 d) i
  simp only [Host.argReduceFiber, List.mem_map, List.mem_filter, List.mem_finRange, true_and, decide_eq_true_eq, fib]
  constructor
  · rintro ⟨n, ⟨k, hk⟩, rfl⟩
    exact ⟨k, by rw [← hk]; exact at_k k⟩
  · rintro ⟨k, rfl⟩
    exact ⟨S64x512.rowMajor (ix2 d k), ⟨k, (Equiv.symm_apply_apply _ _).symm⟩, by rw [Equiv.symm_apply_apply]; exact at_k k⟩

/-- The reference's index for vector `d` is the nearest codebook row's. -/
theorem nearest_apply (d : Fin 64) : nearest a w (ix1 d) = BitVec.ofNat 32 (idx (vec a) (book w) d).val := by
  show (Host.argReduce _ _ _ _ _ _ _ (ix1 d)).2 = _
  rw [Ideal.argReduce_eq_reduce2, Host.reduce2_eq_foldl_fiber]
  rw [show constant (F := Ideal) S_ .f32 0x7F800000#32 (Shape.Idx.first h_S_) = (⊤ : EReal) from bits_top]
  exact foldl_index (first_spec _) _ (mem_fiber a w d)

/-- Its one-hot row is 1 at the nearest codebook row and 0 elsewhere. -/
theorem onehot_apply (d : Fin 64) (k : Fin 512) :
    onehot a w (ix2 d k) = if idx (vec a) (book w) d = k then (1 : EReal) else 0 := by
  pointwise [onehot]
  rw [nearest_apply, uitofp_cmpi]

/-- Its differences are the nearest codebook row less the vector. -/
theorem diffs_apply (d : Fin 64) (l : Fin 4096) : diffs a w (ix2 d l) = err (vec a) (book w) d l := by
  pointwise [diffs]
  simp only [rows_apply, onehot_apply, sum_onehot]
  rfl

/-- Its loss: the mean over the vectors of the mean squared difference plus a quarter of it. -/
theorem loss_apply : loss a w ix0
    = Ideal.div (∑ d, (Ideal.div (∑ l, err (vec a) (book w) d l * err (vec a) (book w) d l) (Ideal.ofBits .f32 0x45800000#32)
        + Ideal.ofBits .f32 0x3E800000#32
          * Ideal.div (∑ l, err (vec a) (book w) d l * err (vec a) (book w) d l) (Ideal.ofBits .f32 0x45800000#32)))
      (Ideal.ofBits .f32 0x42800000#32) := by
  pointwise [loss, means]
  simp only [diffs_apply]

/-- Its output: the input plus the differences. -/
theorem out_apply (b : Fin 8) (l : Fin 512) (d : Fin 64) :
    out a w (ix3 b l d) = a (ix3 b l d) + err (vec a) (book w) d ⟨b.val * 512 + l.val, by omega⟩ := by
  pointwise [out]
  rw [rows_apply, diffs_apply]
  have hb : (b.val * 512 + l.val) / 512 = b.val := by omega
  have hl : (b.val * 512 + l.val) % 512 = l.val := by omega
  simp only [vec, hb, hl, Fin.eta]

/-- Its perplexity, each vector's entropy taken over a one-hot row. -/
theorem perplexity_apply : perplexity a w ix0
    = Ideal.div (∑ d : Fin 64, Ideal.exp (-∑ k, (if idx (vec a) (book w) d = k then (1 : EReal) else 0)
        * Ideal.log ((if idx (vec a) (book w) d = k then (1 : EReal) else 0) + Ideal.ofBits .f32 0x2EDBE6FF#32)))
      (Ideal.ofBits .f32 0x42800000#32) := by
  pointwise [perplexity]
  simp only [onehot_apply]

end Cert.Proof.Ref

end
-- ==== Proof.KernelRun.lean ====
/- The kernel's run, at the ideal instance: every execution ends with each array of the TensorCore at what the last
   stretch of the host's operations leaves of it, and what that is for the four results, as terms of the arguments. -/
module

public import proofs.«01_k».proof.Proof.Gen.KernelIdeal.Frame
public import Idealize.ShloMosaic.Lib.Pipeline.ValueKit
public import Idealize.ShloMosaic.Lib.Claim

@[expose] public section

set_option maxRecDepth 16384

noncomputable section

namespace Cert.Proof.Kern

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every execution of the kernel's program ends with every array of the TensorCore at the last boundary's contents. -/
theorem run_all : θ_run (defs (F := Ideal)) (onTc (τ := τ) (main (F := Ideal))) ⟨m, fun _ => 0, ρ⟩ (fun r => ∀ c : Dev nD,
      ∀ b ∈ Pipeline.ucRefs τ sig, r.2.mem (((c : Thread nD τ)).1, b) = W5 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => h)

/-- The input flattened to 4096 rows of 64, as the kernel's call receives it. -/
def flat (a : FVec Ideal S8x512x64 .f32) : FVec Ideal S4096x64 .f32 := shapeCast S4096x64 a shapeCasts_S8x512x64_S4096x64

/-- The first call's operands: the flattened input -/
theorem V1_main_v0 (c : Dev nD) : V1 m ρ c main_v0 = flat (m ((c : Thread nD τ).loc main_arg0)) := by
  unfold_abbrev_sides
  after_results
  rfl

/-- and the codebook. -/
theorem V1_main_arg1 (c : Dev nD) : V1 m ρ c main_arg1 = m ((c : Thread nD τ).loc main_arg1) :=
  W1_args m ρ c main_arg1 (by decide)

/-- Every window of the first call stands at block 0 at its one point. -/
theorem idx0 : ∀ t : Fin cfg0.N, win0_0.index t = ![0, 0] ∧ win0_1.index t = ![0, 0] ∧ win0_2.index t = ![0, 0]
    ∧ win0_3.index t = ![0, 0] ∧ win0_4.index t = ![0, 0] := by decide +kernel

/-- So does the second call's output window. -/
theorem idx1 : ∀ t : Fin cfg1.N, win1_1.index t = ![0, 0] := by decide +kernel

/-- The first call's two operand blocks are the whole operands. -/
theorem blk0_0 (c : Dev nD) (t : Fin cfg0.N) : iblk0 (V1 m ρ) c 0 t = flat (m ((c : Thread nD τ).loc main_arg0)) := by
  funext y
  rw [← V1_main_v0 m ρ c]
  unfold iblk0
  blk_ext [idx0 t]

theorem blk0_1 (c : Dev nD) (t : Fin cfg0.N) : iblk0 (V1 m ρ) c 1 t = m ((c : Thread nD τ).loc main_arg1) := by
  funext y
  rw [← V1_main_arg1 m ρ c]
  blk_ext [iblk0, idx0 t]

/-- What the first call leaves in its output of 4096 rows. -/
theorem arr0_2 (c : Dev nD) : (dat0 (V1 m ρ) c).arrAt 2 cfg0.N
    = k0_pay1 (k0_pay2 (flat (m ((c : Thread nD τ).loc main_arg0))))
        (k0_pay5 (flat (m ((c : Thread nD τ).loc main_arg0))) (m ((c : Thread nD τ).loc main_arg1))) := by
  refine (dat0 (V1 m ρ) c).arrAt_eq_of_covers 2 _ (by decide +kernel) fun t hf y => ?_
  blk_simp
  rw [after0_2]
  frame_out
  rw [blk0_0, blk0_1]
  refine congrArg _ ?_
  blk_ext [idx0 t]

/-- What the first call leaves in its output of 64 indices. -/
theorem arr0_3 (c : Dev nD) : (dat0 (V1 m ρ) c).arrAt 3 cfg0.N
    = k0_pay4 (flat (m ((c : Thread nD τ).loc main_arg0))) (m ((c : Thread nD τ).loc main_arg1)) := by
  refine (dat0 (V1 m ρ) c).arrAt_eq_of_covers 3 _ (by decide +kernel) fun t hf y => ?_
  blk_simp
  rw [after0_3]
  frame_out
  rw [blk0_0, blk0_1]
  refine congrArg _ ?_
  blk_ext [idx0 t]

/-- What the first call leaves in its output of one element. -/
theorem arr0_4 (c : Dev nD) : (dat0 (V1 m ρ) c).arrAt 4 cfg0.N
    = k0_pay6 (flat (m ((c : Thread nD τ).loc main_arg0))) (m ((c : Thread nD τ).loc main_arg1)) := by
  refine (dat0 (V1 m ρ) c).arrAt_eq_of_covers 4 _ (by decide +kernel) fun t hf y => ?_
  blk_simp
  rw [after0_4]
  frame_out
  rw [blk0_0, blk0_1]
  refine congrArg _ ?_
  blk_ext [idx0 t]

/-- What the second call leaves in its output of one element. -/
theorem arr1_1 (c : Dev nD) : (dat1 (V3 m ρ) c).arrAt 1 cfg1.N = k1_pay1 (F := Ideal) := by
  refine (dat1 (V3 m ρ) c).arrAt_eq_of_covers 1 _ (by decide +kernel) fun t hf y => ?_
  blk_simp
  rw [after1_1]
  frame_out
  refine congrArg _ ?_
  blk_ext [idx1 t]

/-- The four results, read through the host's reshapes: the loss, -/
theorem W5_main_v3 (c : Dev nD) : W5 m ρ c (Proc.devRef .tc main_v3)
    = shapeCast S_ (k0_pay6 (flat (m ((c : Thread nD τ).loc main_arg0))) (m ((c : Thread nD τ).loc main_arg1))) shapeCasts_S1x1_S_ := by
  rw [W5_of m ρ c main_v3 (by decide), W4_of m ρ c main_v3 (by decide), ← arr0_4 m ρ c, ← W2_arr m ρ c 4]
  unfold_abbrev_sides
  after_results
  rfl

/-- the quantized array, -/
theorem W5_main_v2 (c : Dev nD) : W5 m ρ c (Proc.devRef .tc main_v2)
    = shapeCast S8x512x64 (k0_pay1 (k0_pay2 (flat (m ((c : Thread nD τ).loc main_arg0))))
        (k0_pay5 (flat (m ((c : Thread nD τ).loc main_arg0))) (m ((c : Thread nD τ).loc main_arg1)))) shapeCasts_S4096x64_S8x512x64 := by
  rw [W5_of m ρ c main_v2 (by decide), W4_of m ρ c main_v2 (by decide), ← arr0_2 m ρ c, ← W2_arr m ρ c 2]
  unfold_abbrev_sides
  after_results
  rfl

/-- the indices -/
theorem W5_main_v4 (c : Dev nD) : W5 m ρ c (Proc.devRef .tc main_v4)
    = shapeCast S64 (k0_pay4 (flat (m ((c : Thread nD τ).loc main_arg0))) (m ((c : Thread nD τ).loc main_arg1))) shapeCasts_S1x64_S64 := by
  rw [W5_of m ρ c main_v4 (by decide), W4_of m ρ c main_v4 (by decide), ← arr0_3 m ρ c, ← W2_arr m ρ c 3]
  unfold_abbrev_sides
  after_results
  rfl

/-- and the perplexity. -/
theorem W5_main_v6 (c : Dev nD) : W5 m ρ c (Proc.devRef .tc main_v6)
    = shapeCast S_ (k1_pay1 (F := Ideal)) shapeCasts_S1x1_S_ := by
  rw [← arr1_1 m ρ c, ← W4_arr m ρ c 1]
  unfold_abbrev_sides
  after_results
  rfl

/-- Every execution of the kernel's program ends with the four results at these terms, its arguments unchanged. -/
theorem run : θ_run (defs (F := Ideal)) (onTc (τ := τ) (main (F := Ideal))) ⟨m, fun _ => 0, ρ⟩ (fun r => ∀ c : Dev nD,
      r.2.mem ((c.tc : Thread nD τ).loc main_v3)
        = shapeCast S_ (k0_pay6 (flat (m ((c.tc : Thread nD τ).loc main_arg0))) (m ((c.tc : Thread nD τ).loc main_arg1))) shapeCasts_S1x1_S_
      ∧ r.2.mem ((c.tc : Thread nD τ).loc main_v2)
        = shapeCast S8x512x64 (k0_pay1 (k0_pay2 (flat (m ((c.tc : Thread nD τ).loc main_arg0))))
            (k0_pay5 (flat (m ((c.tc : Thread nD τ).loc main_arg0))) (m ((c.tc : Thread nD τ).loc main_arg1)))) shapeCasts_S4096x64_S8x512x64
      ∧ r.2.mem ((c.tc : Thread nD τ).loc main_v6) = shapeCast S_ (k1_pay1 (F := Ideal)) shapeCasts_S1x1_S_
      ∧ r.2.mem ((c.tc : Thread nD τ).loc main_v4)
        = shapeCast S64 (k0_pay4 (flat (m ((c.tc : Thread nD τ).loc main_arg0))) (m ((c.tc : Thread nD τ).loc main_arg1))) shapeCasts_S1x64_S64
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_v3 (by decide))).trans (W5_main_v3 m ρ c),
     (h c _ (mem_uc main_v2 (by decide))).trans (W5_main_v2 m ρ c),
     (h c _ (mem_uc main_v6 (by decide))).trans (W5_main_v6 m ρ c),
     (h c _ (mem_uc main_v4 (by decide))).trans (W5_main_v4 m ρ c),
     (h c _ (mem_uc main_arg0 (by decide))).trans (W5_main_arg0 m ρ c),
     (h c _ (mem_uc main_arg1 (by decide))).trans (W5_main_arg1 m ρ c)⟩) (run_all m ρ)

end Cert.Proof.Kern

end
-- ==== Proof.KernReads.lean ====
/- The kernel's results read at an index, in the words of Spec.lean. -/
module

public import proofs.«01_k».proof.Proof.Spec
public import proofs.«01_k».proof.Proof.Consts
public import proofs.«01_k».proof.Proof.KernelRun
public import Idealize.ShloMosaic.Lib.Pointwise

@[expose] public section

set_option maxRecDepth 16384

noncomputable section

namespace Cert.Proof.Kern

open Idealize.ShloMosaic Cert.KernelIdeal Cert.KernelIdeal.Gen

/-- The kernel's feature vectors: the columns of its first operand. -/
def vec (y : Vec Ideal S4096x64 .f32) (d : Fin 64) (l : Fin 4096) : EReal := y (ix2 l d)

/-- The codebook's rows. -/
def book (w : Vec Ideal S512x4096 .f32) (k : Fin 512) (l : Fin 4096) : EReal := w (ix2 k l)

variable (y : Vec Ideal S4096x64 .f32) (w : Vec Ideal S512x4096 .f32)

/-- The kernel's index for vector `d` is the nearest codebook row's. -/
theorem pay3_apply (d : Fin 64) : k0_pay3 (F := Ideal) y w (ix1 d) = BitVec.ofNat 32 (idx (vec y) (book w) d).val := by
  rw [idx, ← fold_minsi_eq (first_spec (dist (vec y) (book w) d))]
  pointwise [k0_pay3, k0_pay2]
  rw [bits_top]
  rfl

/-- So is the index it writes out. -/
theorem pay4_apply (d : Fin 64) : shapeCast S64 (k0_pay4 (F := Ideal) y w) shapeCasts_S1x64_S64 (ix1 d)
    = BitVec.ofNat 32 (idx (vec y) (book w) d).val := by
  pointwise [k0_pay4]
  exact pay3_apply y w d

/-- Its differences are the nearest codebook row less the vector. -/
theorem pay5_apply (l : Fin 4096) (d : Fin 64) : k0_pay5 (F := Ideal) y w (ix2 l d) = err (vec y) (book w) d l := by
  pointwise [k0_pay5, k0_pay2]
  rw [pay3_apply]
  simp only [sitofp_cmpi, mul_comm (w _), eq_comm (b := idx (vec y) (book w) d)]
  rw [sum_onehot _ fun k => w (ix2 k l)]
  rfl

/-- Its loss: the weighted sum of all the squared differences over their number. -/
theorem pay6_apply : shapeCast S_ (k0_pay6 (F := Ideal) y w) shapeCasts_S1x1_S_ ix0
    = Ideal.div (Ideal.ofBits .f32 0x3FA00000#32 * ∑ l, ∑ d, err (vec y) (book w) d l * err (vec y) (book w) d l)
      (Ideal.ofBits .f32 0x48800000#32) := by
  pointwise [k0_pay6]
  simp only [pay5_apply]

/-- Its output: the input plus the differences. -/
theorem pay1_apply (a : FVec Ideal S8x512x64 .f32) (b : Fin 8) (l : Fin 512) (d : Fin 64) :
    shapeCast S8x512x64 (k0_pay1 (F := Ideal) (k0_pay2 (F := Ideal) (flat a)) (k0_pay5 (F := Ideal) (flat a) w))
        shapeCasts_S4096x64_S8x512x64 (ix3 b l d)
      = a (ix3 b l d) + err (vec (flat a)) (book w) d ⟨b.val * 512 + l.val, by omega⟩ := by
  rw [← pay5_apply]
  pointwise [k0_pay1, k0_pay2, flat]

/-- Its perplexity: the named constant's value. -/
theorem one_apply : shapeCast S_ (k1_pay1 (F := Ideal)) shapeCasts_S1x1_S_ ix0
    = ((144115188075855872 / 144115188090267391 : ℝ) : EReal) := by
  pointwise [k1_pay1]
  exact IdealRules.named_const.ideal_named_scalar _ _ _ _ rfl

/-- Its feature vectors are the input's channels, the other two axes flattened. -/
theorem vec_flat (a : FVec Ideal S8x512x64 .f32) (d : Fin 64) (l : Fin 4096) :
    vec (flat a) d l = a (ix3 ⟨l.val / 512, by omega⟩ ⟨l.val % 512, by omega⟩ d) := by
  show flat a (ix2 l d) = _
  pointwise [flat]

end Cert.Proof.Kern

end
-- ==== Proof.Sums.lean ====
/- The extended-real arithmetic of the two losses and of the perplexity. -/
module

public import proofs.«01_k».proof.Proof.Spec
public import proofs.«01_k».proof.Proof.Consts

@[expose] public section

noncomputable section

namespace Cert.Proof

open Idealize.ShloMosaic

/-- A square is not negative. -/
theorem square_nonneg (x : EReal) : 0 ≤ x * x := by
  rcases le_total 0 x with h | h
  · exact mul_nonneg h h
  · have := mul_nonneg (EReal.neg_nonneg.mpr h) (EReal.neg_nonneg.mpr h)
    rwa [neg_mul_neg] at this

/-- A real factor that is not negative leaves a sum of terms that are not negative. -/
theorem sum_mul_coe {ι : Type} (s : Finset ι) (f : ι → EReal) (hf : ∀ i, 0 ≤ f i) (r : ℝ) :
    ∑ i ∈ s, f i * (r : EReal) = (∑ i ∈ s, f i) * (r : EReal) := by
  classical
  induction s using Finset.induction_on with
  | empty => simp
  | insert i s hi ih =>
    rw [Finset.sum_insert hi, Finset.sum_insert hi, ih,
      EReal.right_distrib_of_nonneg (hf i) (Finset.sum_nonneg fun j _ => hf j)]

/-- The mean over 64 vectors of their mean squares plus a quarter of them is 1.25 times the sum of all squares over
    the number of all elements. -/
theorem loss_eq (e : Fin 64 → Fin 4096 → EReal) :
    Ideal.div (Ideal.ofBits .f32 0x3FA00000#32 * ∑ l, ∑ d, e d l * e d l) (Ideal.ofBits .f32 0x48800000#32)
      = Ideal.div (∑ d, (Ideal.div (∑ l, e d l * e d l) (Ideal.ofBits .f32 0x45800000#32)
          + Ideal.ofBits .f32 0x3E800000#32 * Ideal.div (∑ l, e d l * e d l) (Ideal.ofBits .f32 0x45800000#32)))
        (Ideal.ofBits .f32 0x42800000#32) := by
  have row (d : Fin 64) : 0 ≤ ∑ l, e d l * e d l := Finset.sum_nonneg fun l _ => square_nonneg _
  have term (x : EReal) : x * ((1 / 4096 : ℝ) : EReal) + ((1 / 4 : ℝ) : EReal) * (x * ((1 / 4096 : ℝ) : EReal))
      = x * ((5 / 16384 : ℝ) : EReal) := by
    have h (z : EReal) : z + ((1 / 4 : ℝ) : EReal) * z = ((5 / 4 : ℝ) : EReal) * z := by
      rw [show ((5 / 4 : ℝ) : EReal) = 1 + ((1 / 4 : ℝ) : EReal) from by
          rw [← EReal.coe_one, ← EReal.coe_add]; norm_num,
        EReal.right_distrib_of_nonneg zero_le_one (EReal.coe_nonneg.mpr (by norm_num)), one_mul]
    rw [h, mul_comm, mul_assoc, ← EReal.coe_mul]
    norm_num
  rw [bits_weight, bits_numel, bits_len, bits_quarter, bits_dim, Ideal.div_coe (by norm_num), Ideal.div_coe (by norm_num)]
  simp only [Ideal.div_coe (show (4096 : ℝ) ≠ 0 by norm_num), term]
  rw [sum_mul_coe _ _ row, Finset.sum_comm, mul_comm ((5 / 4 : ℝ) : EReal), mul_assoc, mul_assoc, ← EReal.coe_mul,
    ← EReal.coe_mul]
  norm_num

/-- The perplexity of one-hot rows: each row's entropy is minus the logarithm of 1 plus epsilon, so the mean of the
    exponentials is 1 over 1 plus epsilon. -/
theorem perplexity_eq (j : Fin 64 → Fin 512) :
    Ideal.div (∑ d : Fin 64, Ideal.exp (-∑ k, (if j d = k then (1 : EReal) else 0)
        * Ideal.log ((if j d = k then (1 : EReal) else 0) + Ideal.ofBits .f32 0x2EDBE6FF#32)))
      (Ideal.ofBits .f32 0x42800000#32) = ((144115188075855872 / 144115188090267391 : ℝ) : EReal) := by
  have row (i : Fin 512) : Ideal.exp (-∑ k, (if i = k then (1 : EReal) else 0)
        * Ideal.log ((if i = k then (1 : EReal) else 0) + Ideal.ofBits .f32 0x2EDBE6FF#32))
      = ((144115188075855872 / 144115188090267391 : ℝ) : EReal) := by
    rw [sum_onehot i fun k => Ideal.log ((if i = k then (1 : EReal) else 0) + Ideal.ofBits .f32 0x2EDBE6FF#32),
      if_pos rfl, bits_eps, ← EReal.coe_one, ← EReal.coe_add, Ideal.log_coe, if_neg (by norm_num), ← EReal.coe_neg,
      Ideal.exp_coe, Real.exp_neg, Real.exp_log (by norm_num)]
    norm_num
  simp only [row]
  rw [bits_dim, Ideal.div_coe (by norm_num), Finset.sum_const, Finset.card_univ, Fintype.card_fin, ← EReal.coe_nsmul,
    ← EReal.coe_mul]
  norm_num

end Cert.Proof

end
-- ==== Proof.Values.lean ====
/- Each of the kernel's four results is the reference's. -/
module

public import proofs.«01_k».proof.Proof.RefReads
public import proofs.«01_k».proof.Proof.KernReads
public import proofs.«01_k».proof.Proof.Sums

@[expose] public section

noncomputable section

namespace Cert.Proof

open Idealize.ShloMosaic Cert.KernelIdeal Cert.KernelIdeal.Gen

variable (a : FVec Ideal S8x512x64 .f32) (w : FVec Ideal S512x4096 .f32)

/-- The two programs have the same feature vectors. -/
theorem vec_eq : Kern.vec (Kern.flat a) = Ref.vec a := funext fun d => funext fun l => Kern.vec_flat a d l

/-- They have the same codebook rows. -/
theorem book_eq : Kern.book w = Ref.book w := rfl

/-- The losses are equal. -/
theorem loss_value : shapeCast S_ (k0_pay6 (F := Ideal) (Kern.flat a) w) shapeCasts_S1x1_S_ = Ref.loss a w := by
  funext j
  rw [show j = ix0 from funext fun i => i.elim0, Kern.pay6_apply, Ref.loss_apply, vec_eq, book_eq]
  exact loss_eq _

/-- The outputs are equal. -/
theorem out_value : shapeCast S8x512x64 (k0_pay1 (F := Ideal) (k0_pay2 (F := Ideal) (Kern.flat a)) (k0_pay5 (F := Ideal) (Kern.flat a) w))
    shapeCasts_S4096x64_S8x512x64 = Ref.out a w := by
  funext j
  idx_vars j
  rw [Kern.pay1_apply, Ref.out_apply, vec_eq, book_eq]

/-- The perplexities are equal. -/
theorem perplexity_value : shapeCast S_ (k1_pay1 (F := Ideal)) shapeCasts_S1x1_S_ = Ref.perplexity a w := by
  funext j
  rw [show j = ix0 from funext fun i => i.elim0, Kern.one_apply, Ref.perplexity_apply]
  exact (perplexity_eq _).symm

/-- The indices are equal. -/
theorem index_value : shapeCast S64 (k0_pay4 (F := Ideal) (Kern.flat a) w) shapeCasts_S1x64_S64 = Ref.nearest a w := by
  funext j
  idx_vars j
  rw [Kern.pay4_apply, Ref.nearest_apply, vec_eq, book_eq]

end Cert.Proof

end
-- ==== Proof.lean ====
/- The five claims: each program runs and leaves its arguments as they were, the idealised kernel is the kernel with one
   literal named, and the idealised kernel's four results are the idealised reference's. -/
module

public import proofs.«01_k».proof.Defs
public import proofs.«01_k».proof.Proof.Gen.Kernel.Frame
public import proofs.«01_k».proof.Proof.Gen.KernelIdeal.Frame
public import proofs.«01_k».proof.Proof.RefRun
public import proofs.«01_k».proof.Proof.Values
public import Idealize.ShloMosaic.Lib.Quiescent

@[expose] public section

noncomputable section

namespace Cert.Proof

open Idealize.ShloMosaic Idealize.SL.Sem

/-- The reference runs, and its arguments end unchanged. -/
theorem reference_frame : Cert.quiescent_ReferenceIdeal := fun m ρ _ =>
  (θ_run Cert.ReferenceIdeal.defs _ _).mono
    (fun r h => ⟨fun c => (h c).2.2.2.2, sem_eq_zero_of_no_sems (by decide) r.2⟩) (Ref.run m ρ)

/-- The kernel's literal 1.0 is the f32 nearest the real number it is named as. -/
theorem literal_named : Cert.preserves_Kernel_KernelIdeal :=
  IdealRules.named_const.statement Cert.KernelIdeal.κ "perplexity" .f32 0x3F800000#32
    ((144115188075855872 / 144115188090267391 : ℝ) : EReal) rfl

/-- From the same arguments the kernel and the reference end with the same four results. -/
theorem same_results : Cert.algebraic_KernelIdeal_ReferenceIdeal := by
  intro m ρ m' ρ' _ hagree
  refine ⟨_, _, _, _, Kern.run m ρ, (θ_run Cert.ReferenceIdeal.defs _ _).mono (fun r h c => ?_) (Ref.run m' ρ')⟩
  obtain ⟨h1, h2, h3, h4, h5⟩ := h c
  rw [(hagree c).1, (hagree c).2] at h1 h2 h3 h4
  exact ⟨h1.trans (loss_value _ _).symm, h2.trans (out_value _ _).symm, h3.trans (perplexity_value _ _).symm,
    h4.trans (index_value _ _).symm, h5⟩

/-- All five claims. -/
theorem claim : Cert.Claim :=
  ⟨Cert.Kernel.Gen.facts, Cert.KernelIdeal.Gen.facts, Cert.ReferenceIdeal.Gen.facts, fun m ρ _ => Cert.Kernel.Gen.frame m ρ,
    fun m ρ _ => Cert.KernelIdeal.Gen.frame m ρ, reference_frame, literal_named, same_results⟩

end Cert.Proof

end
